-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096 : Shape := ⟨2, ![4, 4096]⟩
abbrev S4096x1024 : Shape := ⟨2, ![4096, 1024]⟩
abbrev S4x4096x1024 : Shape := ⟨3, ![4, 4096, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x4096, .i32⟩
  | .hbm, ⟨1, _⟩ => ⟨S4096x1024, .f32⟩
  | .hbm, ⟨2, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .f32⟩
  | .local _ .vmem, ⟨3, _⟩ => ⟨S4x512x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x4096 : Shape := ⟨2, ![4, 4096]⟩
abbrev S4096x1024 : Shape := ⟨2, ![4096, 1024]⟩
abbrev S4096 : Shape := ⟨1, ![4096]⟩
abbrev S1x4096 : Shape := ⟨2, ![1, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4096x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Lookup.lean ====
/-
  The mathematics that the two programs share: a learned positional embedding is the table itself, once for each
  sequence of the batch (`posEmbed`), and a gather of the table's rows at the positions 0, 1, …, 4095, with negative
  indices wrapped and indices past the end masked as `jnp.take` does it, is that array (`take_positions`).
-/
module

public import Idealize.ShloMosaic.Lib.ReduceAll
public import Idealize.ShloMosaic.Lib.Affine
public import Idealize.ShloMosaic.Lib.ValueIdxCore
public import Idealize.ShloMosaic.Lib.Pipeline.Value

@[expose] public section

noncomputable section

namespace Cert.Lookup

open Idealize.ShloMosaic Idealize.ShloMosaic.ValueIdx

variable {α : Type}

/-- The shape of a rank-3 array. -/
abbrev sh3 (a b c : Nat) : Shape := ⟨3, ![a, b, c]⟩
/-- The shape of a rank-2 array. -/
abbrev sh2 (a b : Nat) : Shape := ⟨2, ![a, b]⟩
/-- The shape of a rank-1 array. -/
abbrev sh1 (a : Nat) : Shape := ⟨1, ![a]⟩

/-- The table's index that result index `(n, s, e)` reads: row `s`, column `e`. -/
def rowOf {N S E : Nat} (i : (sh3 N S E).Idx) : (sh2 S E).Idx :=
  ix2 (⟨(i 1).val, (i 1).isLt⟩ : Fin S) (⟨(i 2).val, (i 2).isLt⟩ : Fin E)

/-- The positional embedding of a batch of `N` sequences of length `S`: at `(n, s, e)` the table's element `(s, e)`. -/
def posEmbed {S E : Nat} (N : Nat) (W : (sh2 S E).Idx → α) : (sh3 N S E).Idx → α := fun i => W (rowOf i)

/-- The start index that result index `(n, s, e)` of a gather of rows uses: `(n, s, 0)`. -/
def startOf {N S E : Nat} (i : (sh3 N S E).Idx) : (sh3 N S 1).Idx :=
  ix3 (⟨(i 0).val, (i 0).isLt⟩ : Fin N) (⟨(i 1).val, (i 1).isLt⟩ : Fin S) (0 : Fin 1)

/-- The dimension numbers of `W[idx]` for a table `W : [V, E]` and row numbers `idx : [N, S]`. -/
abbrev rowDims (V E N S : Nat) (wf : GatherDims.WF (sh2 V E) (sh3 N S 1) (sh3 N S E) [2] [0] [] [0] [] 2 ![1, E]) :
    GatherDims (sh2 V E) (sh3 N S 1) (sh3 N S E) where
  offsetDims := [2]
  collapsedSliceDims := [0]
  operandBatchingDims := []
  startIndicesBatchingDims := []
  startIndexMap := [0]
  indexVectorDim := 2
  sliceSizes := ![1, E]
  wf := wf

/-- A gather of rows, read at `(n, s, e)`: if the row number at `(n, s)` is `k`, a row of the table, the element is
    `(k, e)` of the table. -/
theorem gather_rows {V E N S w : Nat}
    (wf : GatherDims.WF (sh2 V E) (sh3 N S 1) (sh3 N S E) [2] [0] [] [0] [] 2 ![1, E])
    (W : (sh2 V E).Idx → α) (idx : IVec (sh3 N S 1) w) (i : (sh3 N S E).Idx) (k : Fin V)
    (hk : (idx (startOf i)).toInt = (k.val : Int)) :
    Host.gather (rowDims V E N S wf) W idx i = W (ix2 k (⟨(i 2).val, (i 2).isLt⟩ : Fin E)) := by
  unfold Host.gather
  refine congrArg W (funext fun a => Fin.ext ?_)
  show (rowDims V E N S wf).start i idx a + (rowDims V E N S wf).batchCoord i a + (rowDims V E N S wf).offCoord i a = _
  rw [GatherDims.batchCoord_eq_zero _ _ _ List.not_mem_nil]
  match a with
  | ⟨0, _⟩ =>
    have hoff : (rowDims V E N S wf).offCoord i (0 : Fin 2) = 0 :=
      GatherDims.offCoord_eq_zero _ _ _ fun h => ((GatherDims.mem_sKept _ _).mp h).1 (List.mem_singleton.mpr rfl)
    have hsi : (rowDims V E N S wf).siIdx i ⟨List.idxOf (0 : Fin 2) (rowDims V E N S wf).startIndexMap,
        List.idxOf_lt_length_iff.2 (List.mem_singleton.mpr rfl)⟩ = startOf i := by
      funext b
      match b with
      | ⟨0, _⟩ => rfl
      | ⟨1, _⟩ => rfl
      | ⟨2, _⟩ => rfl
    have hstart : (rowDims V E N S wf).start i idx (0 : Fin 2) = min (idx (startOf i)).toInt.toNat (V - 1) := by
      unfold GatherDims.start
      rw [dif_pos (show (0 : Fin 2) ∈ (rowDims V E N S wf).startIndexMap from List.mem_singleton.mpr rfl)]
      rw [← hsi]
      rfl
    have hk' := k.isLt
    show (rowDims V E N S wf).start i idx (0 : Fin 2) + 0 + (rowDims V E N S wf).offCoord i (0 : Fin 2) = k.val
    rw [hoff, hstart, hk]
    show min (k.val : Int).toNat (V - 1) + 0 + 0 = k.val
    rw [Int.toNat_natCast]
    omega
  | ⟨1, _⟩ =>
    have hstart : (rowDims V E N S wf).start i idx (1 : Fin 2) = 0 := by
      unfold GatherDims.start
      rw [dif_neg (show ¬(1 : Fin 2) ∈ (rowDims V E N S wf).startIndexMap from by simp)]
    show (rowDims V E N S wf).start i idx (1 : Fin 2) + 0 + (i 2).val = (i 2).val
    rw [hstart]
    omega

/-- A position below 4096, as a 32-bit word read signed, is itself. -/
theorem toInt_pos {n : Nat} (h : n < 4096) : (BitVec.ofNat 32 n).toInt = (n : Int) := by
  rw [BitVec.toInt_eq_toNat_cond, BitVec.toNat_ofNat, Nat.mod_eq_of_lt (by omega), if_pos (by omega)]

/-- The positions along axis 1, broadcast over the batch, are at `(n, s)` the word of `s`. -/
theorem positions_apply (h1 : (sh1 4096).BroadcastsInDim (sh2 1 4096) ![1])
    (h2 : (sh2 1 4096).BroadcastsInDim (sh2 4 4096) ![0, 1]) (y : (sh2 4 4096).Idx) :
    broadcastInDim (sh2 4 4096) ![0, 1] h2 (broadcastInDim (sh2 1 4096) ![1] h1 (iotaInDim (sh1 4096) 32 0)) y
      = BitVec.ofNat 32 (y 1).val := rfl

/-- Wrapping negative row numbers changes nothing at an index where the row number is a position. -/
theorem wrapped_apply (P Z L : IVec (sh2 4 4096) 32) (hP : ∀ y, P y = BitVec.ofNat 32 (y 1).val) (hZ : ∀ y, Z y = 0#32)
    (y : (sh2 4 4096).Idx) : select (cmpi .slt P Z) (addi P L) P y = BitVec.ofNat 32 (y 1).val := by
  have hb : cmpi .slt P Z y = 0#1 := by
    refine eq_zero_of_ne_one fun h => ?_
    have h' : IntOp.cmpi .slt (P y) (Z y) = 1#1 := h
    rw [hP, hZ, IntOp.cmpi_slt, toInt_pos (y 1).isLt] at h'
    have : (0#32 : BitVec 32).toInt = 0 := by decide
    omega
  show Scalar.select (cmpi .slt P Z y) (addi P L y) (P y) = _
  rw [hb, select_zero, hP]

/-- `jnp.take` of the table's rows at the positions is the positional embedding. `I` are the row numbers with a last axis
    of size one, `Z` and `M` the bounds 0 and 4095 that they are compared with, and `fill` what an index out of range
    would get: none is. -/
theorem take_positions
    (wf : GatherDims.WF (sh2 4096 1024) (sh3 4 4096 1) (sh3 4 4096 1024) [2] [0] [] [0] [] 2 ![1, 1024])
    (W : (sh2 4096 1024).Idx → α) (I Z M : IVec (sh3 4 4096 1) 32) (fill : (sh3 4 4096 1024).Idx → α)
    {u : Shape} (one : u.Idx → BitVec 1) (hr : (sh3 4 4096 1).ReducesTo [2] (sh2 4 4096)) (hu : 0 < u.numel)
    (hb : (sh2 4 4096).BroadcastsInDim (sh3 4 4096 1024) ![0, 1])
    (hI : ∀ y, I y = BitVec.ofNat 32 (y 1).val) (hZ : ∀ y, Z y = 0#32) (hM : ∀ y, M y = 4095#32)
    (hone : ∀ y, one y = 1#1) :
    select (broadcastInDim (sh3 4 4096 1024) ![0, 1] hb
        (Host.reduce IntOp.andi (andi (cmpi .sge I Z) (cmpi .sle I M)) one hr hu))
      (Host.gather (rowDims 4096 1024 4 4096 wf) W I) fill = posEmbed 4 W := by
  have hin : ∀ y, andi (cmpi .sge I Z) (cmpi .sle I M) y = 1#1 := fun y => by
    have hlt : (y 1).val < 4096 := (y 1).isLt
    have h0 : (0#32 : BitVec 32).toInt = 0 := by decide
    have hmax : (4095#32 : BitVec 32).toInt = 4095 := by decide
    have hge : IntOp.cmpi .sge (I y) (Z y) = 1#1 := by
      rw [IntOp.cmpi_sge, hI, hZ, toInt_pos hlt]; omega
    have hle : IntOp.cmpi .sle (I y) (M y) = 1#1 := by
      rw [IntOp.cmpi_sle, hI, hM, toInt_pos hlt]; omega
    show IntOp.andi (IntOp.cmpi .sge (I y) (Z y)) (IntOp.cmpi .sle (I y) (M y)) = 1#1
    rw [hge, hle]; rfl
  funext i
  have hmask : (broadcastInDim (sh3 4 4096 1024) ![0, 1] hb
      (Host.reduce IntOp.andi (andi (cmpi .sge I Z) (cmpi .sle I M)) one hr hu)) i = 1#1 := by
    unfold broadcastInDim
    exact Host.reduce_andi_one _ _ _ _ _ (hone _) hin
  show Scalar.select (broadcastInDim (sh3 4 4096 1024) ![0, 1] hb
      (Host.reduce IntOp.andi (andi (cmpi .sge I Z) (cmpi .sle I M)) one hr hu) i)
    (Host.gather (rowDims 4096 1024 4 4096 wf) W I i) (fill i) = _
  rw [hmask, select_one]
  refine gather_rows wf W I i (⟨(i 1).val, (i 1).isLt⟩ : Fin 4096) ?_
  rw [hI]
  exact toInt_pos (i 1).isLt

end Cert.Lookup

end
-- ==== Proof.KernelIdealValue.lean ====
/-
  What the tiled broadcast leaves in its result array, for any float values: grid point `t` writes rows
  `512 t … 512 t + 511` of the table into every sequence's rows of the same numbers, the eight points cover the array, and
  so it ends as the positional embedding of the table.
-/
module

public import proofs.«01_k».proof.Proof.Gen.KernelIdeal.Value
public import proofs.«01_k».proof.Proof.Lookup

@[expose] public section

noncomputable section

namespace Cert.KernelIdeal.Embed

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The positional embedding of device `c`'s table: what the result array is shown to hold. -/
abbrev emb (c : Dev nD) : Buf (Elt F) ((c : Thread nD τ).loc main_v0) :=
  Lookup.posEmbed 4 (S := 4096) (E := 1024) (m ((c : Thread nD τ).loc main_arg1))

theorem zero2 : (![0, 0] : Fin 2 → Nat) = fun _ => 0 := funext fun a => by fin_cases a <;> rfl

/-- The block that the body leaves is, at `(n, s, e)`, the element `(s, e)` of the block of the table that it loaded. -/
theorem block_apply (x : Vec F S512x1024 .f32) (y : S4x512x1024.Idx) :
    out0_1 x y = x (Lookup.rowOf (N := 4) (S := 512) (E := 1024) y) := by
  unfold out0_1
  rw [Value.canon1_eq, View.ld_unit_zero zero2]
  refine congrArg x (funext fun a => ?_)
  match a with
  | ⟨0, _⟩ => rfl
  | ⟨1, _⟩ => rfl

/-- Where point `t`'s blocks begin: the table's at row `512 t`, the result's at row `512 t` of every sequence. -/
theorem index_eq : ∀ t : Fin cfg0.N, win0_0.index t 0 = t.val ∧ win0_0.index t 1 = 0
    ∧ win0_1.index t 0 = 0 ∧ win0_1.index t 1 = t.val ∧ win0_1.index t 2 = 0 :=
  (by decide +kernel : ∀ t : Fin grid0.N, win0_0.index t 0 = t.val ∧ win0_0.index t 1 = 0
    ∧ win0_1.index t 0 = 0 ∧ win0_1.index t 1 = t.val ∧ win0_1.index t 2 = 0)

/-- What point `t` writes back is its block of the positional embedding. -/
theorem flushed_eq (c : Dev nD) (t : Fin cfg0.N) :
    (dats m 0 c).flushed 1 t = ((cfg0.win 1).blk t).view.read (Elt F) (emb m c) := by
  rw [Value.flushed1]
  obtain ⟨h0, h1, h2, h3, h4⟩ := index_eq t
  funext y
  show out0_1 (iblk m c 0 t) _ = _
  rw [block_apply]
  show m ((c : Thread nD τ).loc main_arg1) _ = m ((c : Thread nD τ).loc main_arg1) _
  refine congrArg _ (funext fun a => Fin.ext ?_)
  match a with
  | ⟨0, _⟩ =>
    show win0_0.index t 0 * 512 + 1 * (y 1).val = win0_1.index t 1 * 512 + 1 * (y 1).val
    rw [h0, h3]
  | ⟨1, _⟩ =>
    show win0_0.index t 1 * 1024 + 1 * (y 2).val = win0_1.index t 2 * 1024 + 1 * (y 2).val
    rw [h1, h4]

/-- Every index of the result array is in the block of point `row / 512`. -/
theorem cover (i : S4x4096x1024.Idx) :
    ∃ t : Fin cfg0.N, (cfg0.win 1).flush t = true ∧ i ∈ ((cfg0.win 1).blk t).view.set := by
  have i0 : (i 0 : Nat) < 4 := (i 0).isLt
  have i1 : (i 1 : Nat) < 4096 := (i 1).isLt
  have i2 : (i 2 : Nat) < 1024 := (i 2).isLt
  have hN : cfg0.N = 8 := N_0
  refine ⟨⟨(i 1 : Nat) / 512, by omega⟩, flush0_1 _, ?_⟩
  generalize ht : (⟨(i 1 : Nat) / 512, _⟩ : Fin cfg0.N) = t
  have htv : t.val = (i 1 : Nat) / 512 := by rw [← ht]
  obtain ⟨-, -, h2, h3, h4⟩ := index_eq t
  show i ∈ ((View.whole main_v0).slice (win0_1.rect t)).set
  rw [View.set_slice_whole, Rect.mem_set_unit]
  intro a
  match a with
  | ⟨0, _⟩ =>
    show win0_1.index t 0 * 4 ≤ (i 0 : Nat) ∧ (i 0 : Nat) < win0_1.index t 0 * 4 + 4
    omega
  | ⟨1, _⟩ =>
    show win0_1.index t 1 * 512 ≤ (i 1 : Nat) ∧ (i 1 : Nat) < win0_1.index t 1 * 512 + 512
    omega
  | ⟨2, _⟩ =>
    show win0_1.index t 2 * 1024 ≤ (i 2 : Nat) ∧ (i 2 : Nat) < win0_1.index t 2 * 1024 + 1024
    omega

/-- So the result array ends holding the positional embedding. -/
theorem final (c : Dev nD) : (dats m 0 c).arrAt 1 cfg0.N = emb m c :=
  (dats m 0 c).arrAt_eq_of_cover 1 (emb m c) (fun t _ => flushed_eq m c t) cover

/-- The run: the result array at the positional embedding of the table, the arguments unchanged. -/
theorem run : θ_run defs (onTc (τ := τ) (main (F := F))) ⟨m, fun _ => 0, ρ⟩ fun r => ∀ c : Dev nD,
      r.2.mem ((c : Thread nD τ).loc main_v0) = emb m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Embed

end
-- ==== Proof.ReferenceIdealValue.lean ====
/-
  What the reference computes, for any float values: `jnp.take` of the table at the positions is the positional
  embedding of the table.
-/
module

public import proofs.«01_k».proof.Proof.Gen.ReferenceIdeal.Run
public import proofs.«01_k».proof.Proof.Lookup

@[expose] public section

noncomputable section

namespace Cert.ReferenceIdeal.Embed

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The positional embedding of device `c`'s table: what the result array is shown to hold. -/
abbrev emb (c : Dev nD) : Buf (Elt F) ((c : Thread nD τ).loc main_v3) :=
  Lookup.posEmbed 4 (S := 4096) (E := 1024) (m ((c : Thread nD τ).loc main_arg1))

/-- The run: the result array at the positional embedding of the table, the arguments unchanged. -/
theorem run : θ_run defs (onTc (τ := τ) (main (F := F))) ⟨m, fun _ => 0, ρ⟩ fun r => ∀ c : Dev nD,
      r.2.mem ((c : Thread nD τ).loc main_v3) = emb m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  refine Lookup.take_positions _ _ _ _ _ _ _ _ _ _ (fun y => ?_) (fun _ => rfl) (fun _ => rfl) (fun _ => rfl)
  exact Lookup.wrapped_apply _ _ _ (Lookup.positions_apply _ _) (fun _ => rfl) _

/-- The frame: the run terminates with the arguments unchanged, and the program declares no semaphore. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (run m ρ)

end Cert.ReferenceIdeal.Embed

end
-- ==== Proof.lean ====
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.KernelIdealValue
public import proofs.«01_k».proof.Proof.ReferenceValue
public import proofs.«01_k».proof.Proof.ReferenceIdealValue
public import Idealize.ShloMosaic.Lib.Quiescent

@[expose] public section

noncomputable section

namespace Cert.Proof

open Idealize.ShloMosaic Idealize.SL.Sem

/-- Over the extended reals kernel and reference both end with the positional embedding of the table. -/
theorem algebraic : Cert.algebraic_KernelIdeal_ReferenceIdeal := by
  intro m ρ m' ρ' _ hagree
  refine ⟨fun c => Cert.KernelIdeal.Embed.emb m c, Cert.KernelIdeal.Embed.run (F := Ideal) m ρ, ?_⟩
  refine (θ_run Cert.ReferenceIdeal.defs _ _).mono (fun _ h c => ⟨(h c).1.trans ?_, (h c).2⟩)
    (Cert.ReferenceIdeal.Embed.run (F := Ideal) m' ρ')
  exact congrArg (Cert.Lookup.posEmbed 4 (S := 4096) (E := 1024)) (hagree c).2

/-- On float words kernel and reference both end with the positional embedding of the table. -/
theorem bitexact : Cert.bitexact_Kernel_Reference := by
  intro m ρ m' ρ' _ hagree
  refine ⟨fun c => Cert.Kernel.Embed.emb m c, Cert.Kernel.Embed.run (F := Bits) m ρ, ?_⟩
  refine (θ_run Cert.Reference.defs _ _).mono (fun _ h c => ⟨(h c).1.trans ?_, (h c).2⟩)
    (Cert.Reference.Embed.run (F := Bits) m' ρ')
  exact congrArg (Cert.Lookup.posEmbed 4 (S := 4096) (E := 1024)) (hagree c).2

/-- The certificate: the frames, the idealization and the two value claims. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    fun m ρ _ => Cert.ReferenceIdeal.Embed.frame m ρ, fun m ρ _ => Cert.Reference.Embed.frame m ρ,
    trivial, algebraic, bitexact⟩

end Cert.Proof

end
